-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_multipliers_nonnegative [hPre_multipliers_nonnegative : Cert.Pre_multipliers_nonnegative.Facts] (m : (ℓ : Loc Cert.KernelIdeal.nD Cert.KernelIdeal.τ Cert.KernelIdeal.sig) → Buf (Elt Ideal) ℓ) : Prop :=
  ∀ c : Dev Cert.KernelIdeal.nD,
    (Cert.Pre_multipliers_nonnegative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_multipliers_nonnegative [hPre_multipliers_nonnegative : Cert.Pre_multipliers_nonnegative.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_multipliers_nonnegative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_multipliers_nonnegative [hKernelIdeal : Cert.KernelIdeal.Facts] [hPre_multipliers_nonnegative : Cert.Pre_multipliers_nonnegative.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_multipliers_nonnegative m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_multipliers_nonnegative [hReferenceIdeal : Cert.ReferenceIdeal.Facts] [hPre_multipliers_nonnegative : Cert.Pre_multipliers_nonnegative.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_multipliers_nonnegative m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_multipliers_nonnegative [hKernelIdeal : Cert.KernelIdeal.Facts] [hReferenceIdeal : Cert.ReferenceIdeal.Facts] [hPre_multipliers_nonnegative : Cert.Pre_multipliers_nonnegative.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_multipliers_nonnegative m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_multipliers_nonnegative : Cert.Pre_multipliers_nonnegative.Facts),
    quiescent_Kernel (hKernel := hKernel)
    ∧ quiescent_KernelIdeal (hKernelIdeal := hKernelIdeal)
    ∧ quiescent_KernelIdeal_pre_multipliers_nonnegative (hKernelIdeal := hKernelIdeal) (hPre_multipliers_nonnegative := hPre_multipliers_nonnegative)
    ∧ quiescent_ReferenceIdeal (hReferenceIdeal := hReferenceIdeal)
    ∧ quiescent_ReferenceIdeal_pre_multipliers_nonnegative (hReferenceIdeal := hReferenceIdeal) (hPre_multipliers_nonnegative := hPre_multipliers_nonnegative)
    ∧ preserves_Kernel_KernelIdeal
    ∧ algebraic_KernelIdeal_ReferenceIdeal_pre_multipliers_nonnegative (hKernelIdeal := hKernelIdeal) (hReferenceIdeal := hReferenceIdeal) (hPre_multipliers_nonnegative := hPre_multipliers_nonnegative)
-- ==== Pre_multipliers_nonnegative.lean ====
abbrev S8x2048x4096 : Shape := ⟨3, ![8, 2048, 4096]⟩
abbrev S_ : Shape := ⟨0, ![]⟩
abbrev S14336x4096 : Shape := ⟨2, ![14336, 4096]⟩
abbrev S14336 : Shape := ⟨1, ![14336]⟩

class Facts : Prop where
  bcast_S_S14336 : S_.BroadcastsInDim S14336 (![] : Fin 0 → Fin S14336.rank)

variable [Facts]

def fn {F : FTy → Type} [FloatOps F] (main_arg0 : IVec S8x2048x4096 8) (main_arg1 : IVec S_ 32) (main_arg2 : IVec S14336x4096 8) (main_arg3 : IVec S14336 32) (main_arg4 : IVec S14336 32) (main_arg5 : IVec S14336 32) (main_arg6 : IVec S_ 32) : IVec S14336 1 :=
  let main_c : IVec S_ 32 := constantI S_ 32 0#32
  let main_v0 : IVec S14336 32 := broadcastInDim S14336 ![] bcast_S_S14336 main_c
  let main_v1 : IVec S14336 1 := cmpi .sge main_arg4 main_v0
  main_v1
-- ==== Kernel.lean ====
abbrev S8x2048x4096 : Shape := ⟨3, ![8, 2048, 4096]⟩
abbrev S_ : Shape := ⟨0, ![]⟩
abbrev S14336x4096 : Shape := ⟨2, ![14336, 4096]⟩
abbrev S14336 : Shape := ⟨1, ![14336]⟩
abbrev S1 : Shape := ⟨1, ![1]⟩
abbrev S2 : Shape := ⟨1, ![2]⟩
abbrev S16384x4096 : Shape := ⟨2, ![16384, 4096]⟩
abbrev S1x14336 : Shape := ⟨2, ![1, 14336]⟩
abbrev S16384x14336 : Shape := ⟨2, ![16384, 14336]⟩
abbrev S1024x4096 : Shape := ⟨2, ![1024, 4096]⟩
abbrev S1x1024 : Shape := ⟨2, ![1, 1024]⟩
abbrev S1024x1024 : Shape := ⟨2, ![1024, 1024]⟩
abbrev S16x1024 : Shape := ⟨2, ![16, 1024]⟩

abbrev nBuf : Space → Nat
  | .hbm => 15
  | .vmem => 13
  | .smem => 1
  | _ => 0

abbrev bufTy : (tb : Table) → Fin (tcTables nBuf tb) → BufTy
  | .hbm, ⟨0, _⟩ => ⟨S8x2048x4096, .i8⟩
  | .hbm, ⟨1, _⟩ => ⟨S_, .i32⟩
  | .hbm, ⟨2, _⟩ => ⟨S14336x4096, .i8⟩
  | .hbm, ⟨3, _⟩ => ⟨S14336, .i32⟩
  | .hbm, ⟨4, _⟩ => ⟨S14336, .i32⟩
  | .hbm, ⟨5, _⟩ => ⟨S14336, .i32⟩
  | .hbm, ⟨6, _⟩ => ⟨S_, .i32⟩
  | .hbm, ⟨7, _⟩ => ⟨S1, .i32⟩
  | .hbm, ⟨8, _⟩ => ⟨S1, .i32⟩
  | .hbm, ⟨9, _⟩ => ⟨S2, .i32⟩
  | .hbm, ⟨10, _⟩ => ⟨S16384x4096, .i8⟩
  | .hbm, ⟨11, _⟩ => ⟨S1x14336, .i32⟩
  | .hbm, ⟨12, _⟩ => ⟨S1x14336, .i32⟩
  | .hbm, ⟨13, _⟩ => ⟨S1x14336, .i32⟩
  | .hbm, ⟨14, _⟩ => ⟨S16384x14336, .i8⟩
  | .local _ .vmem, ⟨0, _⟩ => ⟨S1024x4096, .i8⟩
  | .local _ .vmem, ⟨1, _⟩ => ⟨S1024x4096, .i8⟩
  | .local _ .vmem, ⟨2, _⟩ => ⟨S1024x4096, .i8⟩
  | .local _ .vmem, ⟨3, _⟩ => ⟨S1024x4096, .i8⟩
  | .local _ .vmem, ⟨4, _⟩ => ⟨S1x1024, .i32⟩
  | .local _ .vmem, ⟨5, _⟩ => ⟨S1x1024, .i32⟩
  | .local _ .vmem, ⟨6, _⟩ => ⟨S1x1024, .i32⟩
  | .local _ .vmem, ⟨7, _⟩ => ⟨S1x1024, .i32⟩
  | .local _ .vmem, ⟨8, _⟩ => ⟨S1x1024, .i32⟩
  | .local _ .vmem, ⟨9, _⟩ => ⟨S1x1024, .i32⟩
  | .local _ .vmem, ⟨10, _⟩ => ⟨S1024x1024, .i8⟩
  | .local _ .vmem, ⟨11, _⟩ => ⟨S1024x1024, .i8⟩
  | .local _ .vmem, ⟨12, _⟩ => ⟨S1024x1024, .i32⟩
  | .local _ .smem, ⟨0, _⟩ => ⟨S2, .i32⟩
  | _, _ => ⟨S8x2048x4096, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![14, 16], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x4096 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x4096 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S8x2048x4096 : Shape := ⟨3, ![8, 2048, 4096]⟩
abbrev S_ : Shape := ⟨0, ![]⟩
abbrev S14336x4096 : Shape := ⟨2, ![14336, 4096]⟩
abbrev S14336 : Shape := ⟨1, ![14336]⟩
abbrev S8x2048x1x4096 : Shape := ⟨4, ![8, 2048, 1, 4096]⟩
abbrev S1x1x14336x4096 : Shape := ⟨4, ![1, 1, 14336, 4096]⟩
abbrev S8x2048x14336x4096 : Shape := ⟨4, ![8, 2048, 14336, 4096]⟩
abbrev S8x2048x14336 : Shape := ⟨3, ![8, 2048, 14336]⟩
abbrev S1x1x14336 : Shape := ⟨3, ![1, 1, 14336]⟩
abbrev S16384x14336 : Shape := ⟨2, ![16384, 14336]⟩

abbrev nBuf : Space → Nat
  | .hbm => 124
  | .vmem => 0
  | .smem => 0
  | _ => 0

abbrev bufTy : (tb : Table) → Fin (tcTables nBuf tb) → BufTy
  | .hbm, ⟨0, _⟩ => ⟨S8x2048x4096, .i8⟩
  | .hbm, ⟨1, _⟩ => ⟨S_, .i32⟩
  | .hbm, ⟨2, _⟩ => ⟨S14336x4096, .i8⟩
  | .hbm, ⟨3, _⟩ => ⟨S14336, .i32⟩
  | .hbm, ⟨4, _⟩ => ⟨S14336, .i32⟩
  | .hbm, ⟨5, _⟩ => ⟨S14336, .i32⟩
  | .hbm, ⟨6, _⟩ => ⟨S_, .i32⟩
  | .hbm, ⟨7, _⟩ => ⟨S8x2048x4096, .i32⟩
  | .hbm, ⟨8, _⟩ => ⟨S14336x4096, .i32⟩
  | .hbm, ⟨9, _⟩ => ⟨S8x2048x1x4096, .i32⟩
  | .hbm, ⟨10, _⟩ => ⟨S1x1x14336x4096, .i32⟩
  | .hbm, ⟨11, _⟩ => ⟨S8x2048x14336x4096, .i32⟩
  | .hbm, ⟨12, _⟩ => ⟨S8x2048x14336x4096, .i32⟩
  | .hbm, ⟨13, _⟩ => ⟨S8x2048x14336x4096, .i32⟩
  | .hbm, ⟨14, _⟩ => ⟨S_, .i32⟩
  | .hbm, ⟨15, _⟩ => ⟨S8x2048x14336, .i32⟩
  | .hbm, ⟨16, _⟩ => ⟨S_, .i32⟩
  | .hbm, ⟨17, _⟩ => ⟨S14336, .i32⟩
  | .hbm, ⟨18, _⟩ => ⟨S14336, .i32⟩
  | .hbm, ⟨19, _⟩ => ⟨S14336, .i32⟩
  | .hbm, ⟨20, _⟩ => ⟨S1x1x14336, .i32⟩
  | .hbm, ⟨21, _⟩ => ⟨S8x2048x14336, .i32⟩
  | .hbm, ⟨22, _⟩ => ⟨S8x2048x14336, .i32⟩
  | .hbm, ⟨23, _⟩ => ⟨S1x1x14336, .i32⟩
  | .hbm, ⟨24, _⟩ => ⟨S8x2048x14336, .i32⟩
  | .hbm, ⟨25, _⟩ => ⟨S8x2048x14336, .i32⟩
  | .hbm, ⟨26, _⟩ => ⟨S_, .i32⟩
  | .hbm, ⟨27, _⟩ => ⟨S8x2048x14336, .i32⟩
  | .hbm, ⟨28, _⟩ => ⟨S8x2048x14336, .i1⟩
  | .hbm, ⟨29, _⟩ => ⟨S8x2048x14336, .i32⟩
  | .hbm, ⟨30, _⟩ => ⟨S8x2048x14336, .i32⟩
  | .hbm, ⟨31, _⟩ => ⟨S14336, .i32⟩
  | .hbm, ⟨32, _⟩ => ⟨S_, .i32⟩
  | .hbm, ⟨33, _⟩ => ⟨S8x2048x14336, .i32⟩
  | .hbm, ⟨34, _⟩ => ⟨S8x2048x14336, .i32⟩
  | .hbm, ⟨35, _⟩ => ⟨S_, .i32⟩
  | .hbm, ⟨36, _⟩ => ⟨S8x2048x14336, .i32⟩
  | .hbm, ⟨37, _⟩ => ⟨S8x2048x14336, .i32⟩
  | .hbm, ⟨38, _⟩ => ⟨S_, .i32⟩
  | .hbm, ⟨39, _⟩ => ⟨S14336, .i32⟩
  | .hbm, ⟨40, _⟩ => ⟨S14336, .i32⟩
  | .hbm, ⟨41, _⟩ => ⟨S_, .i32⟩
  | .hbm, ⟨42, _⟩ => ⟨S14336, .i32⟩
  | .hbm, ⟨43, _⟩ => ⟨S14336, .i32⟩
  | .hbm, ⟨44, _⟩ => ⟨S1x1x14336, .i32⟩
  | .hbm, ⟨45, _⟩ => ⟨S8x2048x14336, .i32⟩
  | .hbm, ⟨46, _⟩ => ⟨S8x2048x14336, .i32⟩
  | .hbm, ⟨47, _⟩ => ⟨S1x1x14336, .i32⟩
  | .hbm, ⟨48, _⟩ => ⟨S8x2048x14336, .i32⟩
  | .hbm, ⟨49, _⟩ => ⟨S8x2048x14336, .i32⟩
  | .hbm, ⟨50, _⟩ => ⟨S1x1x14336, .i32⟩
  | .hbm, ⟨51, _⟩ => ⟨S8x2048x14336, .i32⟩
  | .hbm, ⟨52, _⟩ => ⟨S8x2048x14336, .i32⟩
  | .hbm, ⟨53, _⟩ => ⟨S8x2048x14336, .i32⟩
  | .hbm, ⟨54, _⟩ => ⟨S1x1x14336, .i32⟩
  | .hbm, ⟨55, _⟩ => ⟨S8x2048x14336, .i32⟩
  | .hbm, ⟨56, _⟩ => ⟨S8x2048x14336, .i32⟩
  | .hbm, ⟨57, _⟩ => ⟨S_, .i32⟩
  | .hbm, ⟨58, _⟩ => ⟨S8x2048x14336, .i32⟩
  | .hbm, ⟨59, _⟩ => ⟨S8x2048x14336, .i32⟩
  | .hbm, ⟨60, _⟩ => ⟨S8x2048x14336, .i32⟩
  | .hbm, ⟨61, _⟩ => ⟨S8x2048x14336, .i1⟩
  | .hbm, ⟨62, _⟩ => ⟨S8x2048x14336, .i32⟩
  | .hbm, ⟨63, _⟩ => ⟨S_, .i32⟩
  | .hbm, ⟨64, _⟩ => ⟨S8x2048x14336, .i32⟩
  | .hbm, ⟨65, _⟩ => ⟨S8x2048x14336, .i32⟩
  | .hbm, ⟨66, _⟩ => ⟨S8x2048x14336, .i32⟩
  | .hbm, ⟨67, _⟩ => ⟨S8x2048x14336, .i32⟩
  | .hbm, ⟨68, _⟩ => ⟨S_, .i32⟩
  | .hbm, ⟨69, _⟩ => ⟨S_, .i32⟩
  | .hbm, ⟨70, _⟩ => ⟨S8x2048x14336, .i32⟩
  | .hbm, ⟨71, _⟩ => ⟨S8x2048x14336, .i32⟩
  | .hbm, ⟨72, _⟩ => ⟨S8x2048x14336, .i32⟩
  | .hbm, ⟨73, _⟩ => ⟨S8x2048x14336, .i32⟩
  | .hbm, ⟨74, _⟩ => ⟨S8x2048x14336, .i1⟩
  | .hbm, ⟨75, _⟩ => ⟨S8x2048x14336, .i32⟩
  | .hbm, ⟨76, _⟩ => ⟨S8x2048x14336, .i32⟩
  | .hbm, ⟨77, _⟩ => ⟨S_, .i32⟩
  | .hbm, ⟨78, _⟩ => ⟨S8x2048x14336, .i32⟩
  | .hbm, ⟨79, _⟩ => ⟨S8x2048x14336, .i32⟩
  | .hbm, ⟨80, _⟩ => ⟨S_, .i32⟩
  | .hbm, ⟨81, _⟩ => ⟨S8x2048x14336, .i32⟩
  | .hbm, ⟨82, _⟩ => ⟨S8x2048x14336, .i32⟩
  | .hbm, ⟨83, _⟩ => ⟨S8x2048x14336, .i32⟩
  | .hbm, ⟨84, _⟩ => ⟨S8x2048x14336, .i32⟩
  | .hbm, ⟨85, _⟩ => ⟨S8x2048x14336, .i32⟩
  | .hbm, ⟨86, _⟩ => ⟨S8x2048x14336, .i32⟩
  | .hbm, ⟨87, _⟩ => ⟨S_, .i32⟩
  | .hbm, ⟨88, _⟩ => ⟨S14336, .i32⟩
  | .hbm, ⟨89, _⟩ => ⟨S14336, .i32⟩
  | .hbm, ⟨90, _⟩ => ⟨S_, .i32⟩
  | .hbm, ⟨91, _⟩ => ⟨S14336, .i32⟩
  | .hbm, ⟨92, _⟩ => ⟨S14336, .i32⟩
  | .hbm, ⟨93, _⟩ => ⟨S1x1x14336, .i32⟩
  | .hbm, ⟨94, _⟩ => ⟨S8x2048x14336, .i32⟩
  | .hbm, ⟨95, _⟩ => ⟨S8x2048x14336, .i32⟩
  | .hbm, ⟨96, _⟩ => ⟨S_, .i32⟩
  | .hbm, ⟨97, _⟩ => ⟨S14336, .i32⟩
  | .hbm, ⟨98, _⟩ => ⟨S14336, .i32⟩
  | .hbm, ⟨99, _⟩ => ⟨S_, .i32⟩
  | .hbm, ⟨100, _⟩ => ⟨S8x2048x14336, .i32⟩
  | .hbm, ⟨101, _⟩ => ⟨S8x2048x14336, .i1⟩
  | .hbm, ⟨102, _⟩ => ⟨S8x2048x14336, .i32⟩
  | .hbm, ⟨103, _⟩ => ⟨S1x1x14336, .i32⟩
  | .hbm, ⟨104, _⟩ => ⟨S8x2048x14336, .i32⟩
  | .hbm, ⟨105, _⟩ => ⟨S8x2048x14336, .i32⟩
  | .hbm, ⟨106, _⟩ => ⟨S1x1x14336, .i32⟩
  | .hbm, ⟨107, _⟩ => ⟨S8x2048x14336, .i32⟩
  | .hbm, ⟨108, _⟩ => ⟨S8x2048x14336, .i32⟩
  | .hbm, ⟨109, _⟩ => ⟨S8x2048x14336, .i1⟩
  | .hbm, ⟨110, _⟩ => ⟨S8x2048x14336, .i32⟩
  | .hbm, ⟨111, _⟩ => ⟨S8x2048x14336, .i32⟩
  | .hbm, ⟨112, _⟩ => ⟨S8x2048x14336, .i32⟩
  | .hbm, ⟨113, _⟩ => ⟨S8x2048x14336, .i32⟩
  | .hbm, ⟨114, _⟩ => ⟨S_, .i32⟩
  | .hbm, ⟨115, _⟩ => ⟨S_, .i32⟩
  | .hbm, ⟨116, _⟩ => ⟨S_, .i32⟩
  | .hbm, ⟨117, _⟩ => ⟨S8x2048x14336, .i32⟩
  | .hbm, ⟨118, _⟩ => ⟨S8x2048x14336, .i32⟩
  | .hbm, ⟨119, _⟩ => ⟨S_, .i32⟩
  | .hbm, ⟨120, _⟩ => ⟨S8x2048x14336, .i32⟩
  | .hbm, ⟨121, _⟩ => ⟨S8x2048x14336, .i32⟩
  | .hbm, ⟨122, _⟩ => ⟨S8x2048x14336, .i8⟩
  | .hbm, ⟨123, _⟩ => ⟨S16384x14336, .i8⟩
  | _, _ => ⟨S8x2048x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_2 : Ref sig .tc := ⟨.hbm, 32, rfl⟩
abbrev main_v22 : Ref sig .tc := ⟨.hbm, 33, rfl⟩
abbrev main_v23 : Ref sig .tc := ⟨.hbm, 34, rfl⟩
abbrev main_c_3 : Ref sig .tc := ⟨.hbm, 35, rfl⟩
abbrev main_v24 : Ref sig .tc := ⟨.hbm, 36, rfl⟩
abbrev main_v25 : Ref sig .tc := ⟨.hbm, 37, rfl⟩
abbrev main_c_4 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c_6 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_c_7 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_c_8 : Ref sig .tc := ⟨.hbm, 68, rfl⟩
abbrev main_c_9 : Ref sig .tc := ⟨.hbm, 69, rfl⟩
abbrev main_call0_v0 : Ref sig .tc := ⟨.hbm, 70, rfl⟩
abbrev main_call0_v1 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_c_10 : Ref sig .tc := ⟨.hbm, 77, rfl⟩
abbrev main_v57 : Ref sig .tc := ⟨.hbm, 78, rfl⟩
abbrev main_v58 : Ref sig .tc := ⟨.hbm, 79, rfl⟩
abbrev main_c_11 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_c_12 : Ref sig .tc := ⟨.hbm, 87, rfl⟩
abbrev main_v65 : Ref sig .tc := ⟨.hbm, 88, rfl⟩
abbrev main_v66 : Ref sig .tc := ⟨.hbm, 89, rfl⟩
abbrev main_c_13 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_c_14 : Ref sig .tc := ⟨.hbm, 96, rfl⟩
abbrev main_v72 : Ref sig .tc := ⟨.hbm, 97, rfl⟩
abbrev main_v73 : Ref sig .tc := ⟨.hbm, 98, rfl⟩
abbrev main_c_15 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_c_16 : Ref sig .tc := ⟨.hbm, 114, rfl⟩
abbrev main_c_17 : Ref sig .tc := ⟨.hbm, 115, rfl⟩
abbrev main_call2_v0 : Ref sig .tc := ⟨.hbm, 116, rfl⟩
abbrev main_call2_v1 : Ref sig .tc := ⟨.hbm, 117, rfl⟩
abbrev main_call2_v2 : Ref sig .tc := ⟨.hbm, 118, rfl⟩
abbrev main_call2_v3 : Ref sig .tc := ⟨.hbm, 119, rfl⟩
abbrev main_call2_v4 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩

abbrev nD : Nat := 1
abbrev τ : Topo := Topo.v7x

variable {F : FTy → Type} [FloatOps F]
-- ==== Proof.Requant.lean ====
/-
  The requantiser on one 32-bit accumulator: the kernel's word formula and the reference's word formula, and the proof that
  they are the same word whenever the multiplier is nonnegative. Nothing here speaks of arrays.
-/
module

public import Idealize.ShloMosaic.PureOps
public import Mathlib.Tactic.Ring
public import Mathlib.Tactic.NormNum
public import Mathlib.Tactic.Linarith

@[expose] public section

namespace Cert.Proof.Requant

open Idealize.ShloMosaic

/-- The kernel's high word of `a * m`, doubled and rounded: the halves of `a` (signed) and of `m` (unsigned) multiplied. -/
def kHigh (a m : BitVec 32) : BitVec 32 :=
  let mh := IntOp.shrui .vector m 16#32
  let ml := IntOp.andi m 65535#32
  let ah := IntOp.shrsi .vector a 16#32
  let al := IntOp.andi a 65535#32
  let cross := IntOp.muli ah ml
  let low := IntOp.addi (IntOp.addi (IntOp.muli al mh) (IntOp.shrui .vector (IntOp.muli al ml) 16#32)) 16384#32
  let carry := IntOp.shrsi .vector (IntOp.addi (IntOp.andi cross 32767#32) (IntOp.andi low 32767#32)) 15#32
  IntOp.addi (IntOp.addi (IntOp.addi (IntOp.muli ah (IntOp.muli mh 2#32)) (IntOp.shrsi .vector cross 15#32))
    (IntOp.shrui .vector low 15#32)) carry

/-- The kernel's rounding right shift of `h` by `e`, its output zero point `z`, its clip and its narrowing to eight bits. -/
def kOut (h e z : BitVec 32) : BitVec 8 :=
  let mask := IntOp.subi (IntOp.shli .vector 1#32 e) 1#32
  let thr := IntOp.subi (IntOp.shrsi .vector mask 1#32) (IntOp.shrsi .vector h 31#32)
  let up := (IntOp.cmpi .sgt (IntOp.andi h mask) thr).setWidth 32
  (IntOp.minsi 127#32 (IntOp.maxsi 4294967168#32 (IntOp.addi (IntOp.addi (IntOp.shrsi .vector h e) up) z))).setWidth 8

/-- The reference's middle partial product of the magnitude of `a` and of `m`. -/
def rMid (a m : BitVec 32) : BitVec 32 :=
  IntOp.addi (IntOp.muli (IntOp.shrui .host (IntOp.absi a) 16#32) (IntOp.andi m 65535#32))
    (IntOp.muli (IntOp.andi (IntOp.absi a) 65535#32) (IntOp.shrui .host m 16#32))

/-- The reference's lowest partial product. -/
def rLo (a m : BitVec 32) : BitVec 32 := IntOp.muli (IntOp.andi (IntOp.absi a) 65535#32) (IntOp.andi m 65535#32)

/-- The reference's low word of the product. -/
def rLow (a m : BitVec 32) : BitVec 32 := IntOp.addi (rLo a m) (IntOp.shli .host (rMid a m) 16#32)

/-- The reference's low word with the rounding term (one less when `a` is negative). -/
def rLow2 (a m : BitVec 32) : BitVec 32 :=
  IntOp.addi (rLow a m) (Scalar.select (IntOp.cmpi .slt a 0#32) 1073741823#32 1073741824#32)

/-- The reference's rounded high word of the product of the magnitudes. -/
def rMag (a m : BitVec 32) : BitVec 32 :=
  IntOp.ori
    (IntOp.shli .host (IntOp.addi (IntOp.addi (IntOp.addi
        (IntOp.muli (IntOp.shrui .host (IntOp.absi a) 16#32) (IntOp.shrui .host m 16#32))
        (IntOp.shrui .host (rMid a m) 16#32))
      ((IntOp.cmpi .ult (rLow a m) (rLo a m)).setWidth 32))
      ((IntOp.cmpi .ult (rLow2 a m) (rLow a m)).setWidth 32)) 1#32)
    (IntOp.shrui .host (rLow2 a m) 31#32)

/-- The reference's high word: the magnitude's with the sign put back. -/
def rHigh (a m : BitVec 32) : BitVec 32 :=
  Scalar.select (IntOp.cmpi .slt a 0#32) (-(rMag a m)) (rMag a m)

/-- The reference's rounding right shift, output zero point, clip and narrowing. -/
def rOut (h e z : BitVec 32) : BitVec 8 :=
  let mask := IntOp.subi (IntOp.shli .host 1#32 e) 1#32
  let thr := IntOp.addi (IntOp.shrsi .host mask 1#32) ((IntOp.cmpi .slt h 0#32).setWidth 32)
  let up := (IntOp.cmpi .sgt (IntOp.andi h mask) thr).setWidth 32
  (IntOp.minsi 127#32 (IntOp.maxsi 4294967168#32 (IntOp.addi (IntOp.addi (IntOp.shrsi .host h e) up) z))).setWidth 8

/-- The integer both compute, modulo 2^32: `a * m / 2^31` rounded to nearest, halves up. -/
def high (a m : BitVec 32) : Int := (a.toInt * m.toNat + 2 ^ 30) / 2 ^ 31

theorem toNat_mask16 (x : BitVec 32) : (IntOp.andi x 65535#32).toNat = x.toNat % 65536 := by
  show (x &&& 65535#32).toNat = _
  rw [BitVec.toNat_and]; exact Nat.and_two_pow_sub_one_eq_mod _ 16

theorem toNat_mask15 (x : BitVec 32) : (IntOp.andi x 32767#32).toNat = x.toNat % 32768 := by
  show (x &&& 32767#32).toNat = _
  rw [BitVec.toNat_and]; exact Nat.and_two_pow_sub_one_eq_mod _ 15

theorem toNat_shrui (u : ArithUnit) (x : BitVec 32) (k : Nat) (hk : k < 32) :
    (IntOp.shrui u x (BitVec.ofNat 32 k)).toNat = x.toNat / 2 ^ k := by
  have hk' : (BitVec.ofNat 32 k).toNat = k := by rw [BitVec.toNat_ofNat]; omega
  unfold IntOp.shrui
  rw [if_pos (by omega)]
  rw [BitVec.ushiftRight_eq', BitVec.toNat_ushiftRight, hk', Nat.shiftRight_eq_div_pow]

theorem toInt_shrsi (u : ArithUnit) (x : BitVec 32) (k : Nat) (hk : k < 32) :
    (IntOp.shrsi u x (BitVec.ofNat 32 k)).toInt = x.toInt / 2 ^ k := by
  have hk' : (BitVec.ofNat 32 k).toNat = k := by rw [BitVec.toNat_ofNat]; omega
  unfold IntOp.shrsi
  rw [if_pos (by omega)]
  rw [BitVec.sshiftRight_eq', BitVec.toInt_sshiftRight, hk', Int.shiftRight_eq_div_pow]
  rfl

theorem toNat_shli (u : ArithUnit) (x : BitVec 32) (k : Nat) (hk : k < 32) :
    (IntOp.shli u x (BitVec.ofNat 32 k)).toNat = x.toNat * 2 ^ k % 2 ^ 32 := by
  have hk' : (BitVec.ofNat 32 k).toNat = k := by rw [BitVec.toNat_ofNat]; omega
  unfold IntOp.shli
  rw [if_pos (by omega)]
  rw [BitVec.shiftLeft_eq', BitVec.toNat_shiftLeft, hk', Nat.shiftLeft_eq]

/-- A word whose natural-number reading is `n` is the word of the integer `n`. -/
theorem eq_ofInt_of_toNat {x : BitVec 32} {n : Nat} (h : x.toNat = n) : x = BitVec.ofInt 32 n := by
  apply BitVec.eq_of_toNat_eq
  have := x.isLt
  rw [BitVec.toNat_ofInt]; omega

/-- A word whose signed reading is `n` is the word of the integer `n`. -/
theorem eq_ofInt_of_toInt {x : BitVec 32} {n : Int} (h : x.toInt = n) : x = BitVec.ofInt 32 n := by
  rw [← h, BitVec.ofInt_toInt]

/-- The product by halves, halved again: pure integers. -/
theorem halves (ah al mh ml : Int) :
    ((ah * 65536 + al) * (mh * 65536 + ml) + 2 ^ 30) / 2 ^ 31
      = ah * (mh * 2) + (ah * ml + (al * mh + al * ml / 65536 + 16384)) / 32768 := by
  have e : (ah * 65536 + al) * (mh * 65536 + ml)
      = (ah * mh) * 4294967296 + (ah * ml + al * mh) * 65536 + al * ml := by ring
  have e2 : ah * (mh * 2) = ah * mh * 2 := by ring
  rw [e, e2]
  generalize ah * mh = p; generalize ah * ml = q; generalize al * mh = r; generalize al * ml = s
  omega

/-- The kernel's high word is the word of the rounded product. -/
theorem kHigh_eq (a m : BitVec 32) : kHigh a m = BitVec.ofInt 32 (high a m) := by
  have hmh := toNat_shrui .vector m 16 (by omega)
  have hml := toNat_mask16 m
  have hah := toInt_shrsi .vector a 16 (by omega)
  have hal := toNat_mask16 a
  unfold kHigh
  generalize IntOp.shrui .vector m 16#32 = mh at *
  generalize IntOp.andi m 65535#32 = ml at *
  generalize IntOp.shrsi .vector a 16#32 = ah at *
  generalize IntOp.andi a 65535#32 = al at *
  have ha1 := BitVec.toInt_lt (x := a)
  have ha2 := BitVec.le_toInt (x := a)
  have hm1 := m.isLt
  have hA : a.toInt = ah.toInt * 65536 + al.toNat := by
    rw [hah, hal]
    have : (a.toNat : Int) % 65536 = a.toInt % 65536 := by
      rw [BitVec.toInt_eq_toNat_cond]; split <;> omega
    push_cast; omega
  have hM : (m.toNat : Int) = mh.toNat * 65536 + ml.toNat := by omega
  have b1 : -32768 ≤ ah.toInt := by omega
  have b2 : ah.toInt ≤ 32767 := by omega
  have b3 : al.toNat ≤ 65535 := by omega
  have b4 : mh.toNat ≤ 65535 := by omega
  have b5 : ml.toNat ≤ 65535 := by omega
  -- the cross product does not wrap
  have hcross : (IntOp.muli ah ml).toInt = ah.toInt * ml.toNat := by
    show (ah * ml).toInt = _
    have hml' : ml.toInt = ml.toNat := BitVec.toInt_eq_toNat_of_lt (by omega)
    rw [BitVec.toInt_mul, hml']
    have u : ah.toInt * (ml.toNat : Int) ≤ 32767 * 65535 := by nlinarith
    have l : -32768 * 65535 ≤ ah.toInt * (ml.toNat : Int) := by nlinarith
    apply Int.bmod_eq_of_le <;> omega
  have p1 : al.toNat * mh.toNat ≤ 65535 * 65535 := Nat.mul_le_mul b3 b4
  have p2 : al.toNat * ml.toNat ≤ 65535 * 65535 := Nat.mul_le_mul b3 b5
  have hlow : (IntOp.addi (IntOp.addi (IntOp.muli al mh) (IntOp.shrui .vector (IntOp.muli al ml) 16#32)) 16384#32).toNat
      = al.toNat * mh.toNat + al.toNat * ml.toNat / 65536 + 16384 := by
    have hs := toNat_shrui .vector (IntOp.muli al ml) 16 (by omega)
    have h1 : (IntOp.muli al ml).toNat = al.toNat * ml.toNat := by
      show (al * ml).toNat = _
      rw [BitVec.toNat_mul]; omega
    have h2 : (IntOp.muli al mh).toNat = al.toNat * mh.toNat := by
      show (al * mh).toNat = _
      rw [BitVec.toNat_mul]; omega
    rw [h1] at hs
    show (IntOp.muli al mh + IntOp.shrui .vector (IntOp.muli al ml) 16#32 + 16384#32).toNat = _
    rw [BitVec.toNat_add, BitVec.toNat_add, h2, hs]
    show (_ + 16384) % _ = _
    omega
  dsimp only
  generalize IntOp.muli ah ml = cross at *
  generalize IntOp.addi (IntOp.addi (IntOp.muli al mh) (IntOp.shrui .vector (IntOp.muli al ml) 16#32)) 16384#32 = low at *
  have hc15 := toInt_shrsi .vector cross 15 (by omega)
  have hl15 := toNat_shrui .vector low 15 (by omega)
  have hcm := toNat_mask15 cross
  have hlm := toNat_mask15 low
  have hsum : (IntOp.addi (IntOp.andi cross 32767#32) (IntOp.andi low 32767#32)).toInt
      = (cross.toNat % 32768 + low.toNat % 32768 : Nat) := by
    show (IntOp.andi cross 32767#32 + IntOp.andi low 32767#32).toInt = _
    have : (IntOp.andi cross 32767#32 + IntOp.andi low 32767#32).toNat = cross.toNat % 32768 + low.toNat % 32768 := by
      rw [BitVec.toNat_add, hcm, hlm]; omega
    rw [BitVec.toInt_eq_toNat_of_lt (by omega), this]
  have hcarry := toInt_shrsi .vector (IntOp.addi (IntOp.andi cross 32767#32) (IntOp.andi low 32767#32)) 15 (by omega)
  rw [hsum] at hcarry
  have hcN : ((cross.toNat % 32768 : Nat) : Int) = cross.toInt % 32768 := by
    rw [BitVec.toInt_eq_toNat_cond]; split <;> omega
  rw [eq_ofInt_of_toInt hc15, eq_ofInt_of_toNat hl15, eq_ofInt_of_toInt hcarry,
    show ah = BitVec.ofInt 32 ah.toInt from (BitVec.ofInt_toInt).symm, eq_ofInt_of_toNat (x := mh) rfl,
    show (2#32 : BitVec 32) = BitVec.ofInt 32 2 from rfl]
  show BitVec.ofInt 32 ah.toInt * (BitVec.ofInt 32 _ * BitVec.ofInt 32 2) + BitVec.ofInt 32 _ + BitVec.ofInt 32 _
    + BitVec.ofInt 32 _ = _
  rw [← BitVec.ofInt_mul, ← BitVec.ofInt_mul, ← BitVec.ofInt_add, ← BitVec.ofInt_add, ← BitVec.ofInt_add]
  congr 1
  unfold high
  have hlowZ : (low.toNat : Int) = (al.toNat : Int) * mh.toNat + (al.toNat : Int) * ml.toNat / 65536 + 16384 := by
    rw [hlow]; push_cast; rfl
  rw [hA, hM, halves, ← hcross, ← hlowZ]
  push_cast at hcN ⊢
  generalize ah.toInt * ((mh.toNat : Int) * 2) = X
  omega

/-- The magnitude of a word, read as a natural number. -/
theorem toNat_absi (a : BitVec 32) : (IntOp.absi a).toNat = a.toInt.natAbs := by
  have h := a.isLt
  have hm := BitVec.msb_eq_decide a
  unfold IntOp.absi
  rw [BitVec.toInt_eq_toNat_cond]
  split
  · next hs =>
      rw [hs] at hm
      have : 2 ^ 31 ≤ a.toNat := by simpa using hm.symm
      rw [BitVec.toNat_neg]; split <;> omega
  · next hs =>
      rw [Bool.not_eq_true] at hs
      rw [hs] at hm
      have : a.toNat < 2 ^ 31 := by simpa using hm.symm
      split <;> omega

/-- An unsigned comparison widened to a word counts one exactly when it holds. -/
theorem toNat_ult (x y : BitVec 32) :
    ((IntOp.cmpi .ult x y).setWidth 32).toNat = if x.toNat < y.toNat then 1 else 0 := by
  show ((BitVec.ofBool (x.ult y)).setWidth 32).toNat = _
  rw [BitVec.ult]
  by_cases h : x.toNat < y.toNat <;> simp [h]

/-- A signed comparison with zero holds exactly of the negative words. -/
theorem slt_zero (x : BitVec 32) : IntOp.cmpi .slt x 0#32 = if x.toInt < 0 then 1#1 else 0#1 := by
  show BitVec.ofBool (x.slt 0#32) = _
  rw [BitVec.slt]
  by_cases h : x.toInt < 0 <;> simp [h]

/-- Doubling a word and putting a bit under it. -/
theorem toNat_ori_bit (x b : BitVec 32) (hb : b.toNat < 2) :
    (IntOp.ori (IntOp.shli .host x 1#32) b).toNat = (2 * x.toNat + b.toNat) % 2 ^ 32 := by
  show (IntOp.shli .host x 1#32 ||| b).toNat = _
  rw [BitVec.toNat_or, toNat_shli .host x 1 (by omega)]
  have e : x.toNat * 2 ^ 1 % 2 ^ 32 = (x.toNat % 2 ^ 31) <<< 1 := by rw [Nat.shiftLeft_eq]; omega
  rw [e, ← Nat.shiftLeft_add_eq_or_of_lt (by simpa using hb), Nat.shiftLeft_eq]
  omega

/-- The reference's rounded high word of the magnitudes: the natural number it is, when nothing overflows (`m` nonnegative). -/
theorem rMag_toNat (a m : BitVec 32) (hm : 0 ≤ m.toInt) :
    (rMag a m).toNat
      = (a.toInt.natAbs * m.toNat + (if a.toInt < 0 then 1073741823 else 1073741824)) / 2 ^ 31 % 2 ^ 32 := by
  have hmN : m.toNat < 2 ^ 31 := by
    have h1 := BitVec.toInt_eq_toNat_cond m
    have h2 := m.isLt
    split at h1 <;> omega
  have ha1 := BitVec.toInt_lt (x := a)
  have ha2 := BitVec.le_toInt (x := a)
  have hB := toNat_absi a
  have hBle : (IntOp.absi a).toNat ≤ 2 ^ 31 := by omega
  have hnud : (Scalar.select (IntOp.cmpi .slt a 0#32) 1073741823#32 1073741824#32 : BitVec 32).toNat
      = if a.toInt < 0 then 1073741823 else 1073741824 := by
    rw [slt_zero]; split <;> rfl
  have hmh := toNat_shrui .host (IntOp.absi a) 16 (by omega)
  have hml := toNat_mask16 (IntOp.absi a)
  have hbh := toNat_shrui .host m 16 (by omega)
  have hbl := toNat_mask16 m
  rw [← hB, ← hnud]
  have hnudle : (Scalar.select (IntOp.cmpi .slt a 0#32) 1073741823#32 1073741824#32 : BitVec 32).toNat ≤ 1073741824 := by
    rw [hnud]; split <;> omega
  unfold rMag rLow2 rLow rMid rLo
  generalize (Scalar.select (IntOp.cmpi .slt a 0#32) 1073741823#32 1073741824#32 : BitVec 32) = nud at *
  generalize IntOp.absi a = b at *
  generalize IntOp.shrui .host b 16#32 = mh at *
  generalize IntOp.andi b 65535#32 = ml at *
  generalize IntOp.shrui .host m 16#32 = bh at *
  generalize IntOp.andi m 65535#32 = bl at *
  have b1 : mh.toNat ≤ 32768 := by omega
  have b2 : ml.toNat ≤ 65535 := by omega
  have b3 : bh.toNat ≤ 32767 := by omega
  have b4 : bl.toNat ≤ 65535 := by omega
  have p1 := Nat.mul_le_mul b1 b4
  have p2 := Nat.mul_le_mul b2 b3
  have p3 := Nat.mul_le_mul b2 b4
  have p4 := Nat.mul_le_mul b1 b3
  have hprod : b.toNat * m.toNat = mh.toNat * bh.toNat * 4294967296
      + (mh.toNat * bl.toNat + ml.toNat * bh.toNat) * 65536 + ml.toNat * bl.toNat := by
    have e1 : b.toNat = mh.toNat * 65536 + ml.toNat := by omega
    have e2 : m.toNat = bh.toNat * 65536 + bl.toNat := by omega
    rw [e1, e2]; ring
  have hmid : (IntOp.addi (IntOp.muli mh bl) (IntOp.muli ml bh)).toNat
      = mh.toNat * bl.toNat + ml.toNat * bh.toNat := by
    show (mh * bl + ml * bh).toNat = _
    rw [BitVec.toNat_add, BitVec.toNat_mul, BitVec.toNat_mul]; omega
  have hlo : (IntOp.muli ml bl).toNat = ml.toNat * bl.toNat := by
    show (ml * bl).toNat = _
    rw [BitVec.toNat_mul]; omega
  have hhi : (IntOp.muli mh bh).toNat = mh.toNat * bh.toNat := by
    show (mh * bh).toNat = _
    rw [BitVec.toNat_mul]; omega
  rw [hprod]
  generalize mh.toNat * bh.toNat = P at *
  generalize mh.toNat * bl.toNat = Q at *
  generalize ml.toNat * bh.toNat = R at *
  generalize ml.toNat * bl.toNat = T at *
  generalize IntOp.addi (IntOp.muli mh bl) (IntOp.muli ml bh) = mid at *
  generalize IntOp.muli ml bl = lo at *
  generalize IntOp.muli mh bh = hi at *
  have hms := toNat_shli .host mid 16 (by omega)
  have hmr := toNat_shrui .host mid 16 (by omega)
  generalize IntOp.shli .host mid 16#32 = midl at *
  generalize IntOp.shrui .host mid 16#32 = midh at *
  have hlow : (IntOp.addi lo midl).toNat = (lo.toNat + midl.toNat) % 2 ^ 32 := BitVec.toNat_add _ _
  have hc1 := toNat_ult (IntOp.addi lo midl) lo
  generalize IntOp.addi lo midl = low at *
  have hlow2 : (IntOp.addi low nud).toNat = (low.toNat + nud.toNat) % 2 ^ 32 := BitVec.toNat_add _ _
  have hc2 := toNat_ult (IntOp.addi low nud) low
  generalize IntOp.addi low nud = low2 at *
  have hbit := toNat_shrui .host low2 31 (by omega)
  have hl2 := low2.isLt
  generalize IntOp.shrui .host low2 31#32 = bit at *
  rw [toNat_ori_bit _ _ (by omega)]
  generalize (IntOp.cmpi .ult low lo).setWidth 32 = c1 at *
  generalize (IntOp.cmpi .ult low2 low).setWidth 32 = c2 at *
  have hhigh : (IntOp.addi (IntOp.addi (IntOp.addi hi midh) c1) c2).toNat
      = (hi.toNat + midh.toNat + c1.toNat + c2.toNat) % 2 ^ 32 := by
    show (hi + midh + c1 + c2).toNat = _
    rw [BitVec.toNat_add, BitVec.toNat_add, BitVec.toNat_add]; omega
  rw [hhigh, hbit]
  split at hc1 <;> split at hc2 <;> omega

/-- Negating the rounded-down magnitude rounds the negative product the same way: pure integers. -/
theorem neg_div (N : Nat) : -(((N + 1073741823) / 2147483648 : Nat) : Int) = (-(N : Int) + 1073741824) / 2147483648 := by
  omega

/-- The reference's high word is the word of the rounded product, for a nonnegative multiplier. -/
theorem rHigh_eq (a m : BitVec 32) (hm : 0 ≤ m.toInt) : rHigh a m = BitVec.ofInt 32 (high a m) := by
  have h := rMag_toNat a m hm
  have hw (q : Nat) (hq : (rMag a m).toNat = q % 2 ^ 32) : rMag a m = BitVec.ofInt 32 (q : Int) := by
    rw [BitVec.ofInt_natCast]; exact BitVec.eq_of_toNat_eq (by rw [hq, BitVec.toNat_ofNat])
  replace h := hw _ h
  unfold rHigh high
  rw [slt_zero]
  by_cases hs : a.toInt < 0
  · rw [if_pos hs] at h ⊢
    have e : a.toInt * (m.toNat : Int) = -((a.toInt.natAbs * m.toNat : Nat) : Int) := by
      push_cast
      rw [abs_of_neg hs]; ring
    rw [e, h]
    show -(BitVec.ofInt 32 _) = _
    rw [← BitVec.ofInt_neg]
    exact congrArg _ (neg_div _)
  · rw [if_neg hs] at h ⊢
    have e : a.toInt * (m.toNat : Int) = ((a.toInt.natAbs * m.toNat : Nat) : Int) := by
      push_cast
      rw [abs_of_nonneg (by omega)]
    rw [e, h]
    show (BitVec.ofInt 32 _) = _
    push_cast
    rfl

/-- The two high words agree for a nonnegative multiplier. -/
theorem kHigh_eq_rHigh (a m : BitVec 32) (hm : 0 ≤ m.toInt) : kHigh a m = rHigh a m :=
  (kHigh_eq a m).trans (rHigh_eq a m hm).symm

/-- A shift does the same on every unit, amounts of 32 and more included. -/
theorem shli_unit (u : ArithUnit) (x y : BitVec 32) : IntOp.shli u x y = IntOp.shli .host x y := by
  cases u <;> rfl

theorem shrsi_unit (u : ArithUnit) (x y : BitVec 32) : IntOp.shrsi u x y = IntOp.shrsi .host x y := by
  cases u <;> rfl

/-- Subtracting the sign word adds one exactly when the word is negative. -/
theorem sub_sign (t h : BitVec 32) :
    IntOp.subi t (IntOp.shrsi .host h 31#32) = IntOp.addi t ((IntOp.cmpi .slt h 0#32).setWidth 32) := by
  have hs := toInt_shrsi .host h 31 (by omega)
  have h1 := BitVec.toInt_lt (x := h)
  have h2 := BitVec.le_toInt (x := h)
  rw [slt_zero]
  by_cases hn : h.toInt < 0
  · rw [if_pos hn]
    have e : IntOp.shrsi .host h 31#32 = -1#32 := by
      apply BitVec.eq_of_toInt_eq; rw [hs]; show _ = (-1 : Int); omega
    rw [e]
    show t - -1#32 = t + 1#32
    rw [BitVec.sub_eq_add_neg, BitVec.neg_neg]
  · rw [if_neg hn]
    have e : IntOp.shrsi .host h 31#32 = 0#32 := by
      apply BitVec.eq_of_toInt_eq; rw [hs]; show _ = (0 : Int); omega
    rw [e]
    show t - 0#32 = t + 0#32
    rw [BitVec.sub_zero, BitVec.add_zero]

/-- The two roundings, clips and narrowings agree on every word, every shift amount and every zero point. -/
theorem kOut_eq_rOut (h e z : BitVec 32) : kOut h e z = rOut h e z := by
  unfold kOut rOut
  dsimp only
  rw [shli_unit .vector, shrsi_unit .vector h e, shrsi_unit .vector h 31#32, shrsi_unit .vector _ 1#32, sub_sign]

end Cert.Proof.Requant
-- ==== Proof.Dot.lean ====
/-
  Sums of products of eight-bit integers: what the ideal floating-point contraction of 1024 of them, converted to an integer,
  is as a 32-bit word; and a sum over 4096 positions cut into four chunks of 1024.
-/
module

public import Idealize.ShloMosaic.PureOps
public import Idealize.ShloMosaic.Lib.Pointwise
public import Idealize.ShloMosaic.Lib.IntMxu
public import Mathlib.Data.BitVec

@[expose] public section

noncomputable section

namespace Cert.Proof.Dot

open Idealize.ShloMosaic

/-- The product of two signed bytes as a 32-bit word. -/
def prod (x w : BitVec 8) : BitVec 32 := IntOp.muli (x.signExtend 32) (w.signExtend 32)

/-- Position `k` of chunk `c` of a row of 4096. -/
def at4 (c : Fin 4) (k : Fin 1024) : Fin 4096 := ⟨1024 * c + k, by omega⟩

theorem prod_eq (x w : BitVec 8) : prod x w = BitVec.ofInt 32 (x.toInt * w.toInt) := by
  show x.signExtend 32 * w.signExtend 32 = _
  rw [BitVec.ofInt_mul]; rfl

theorem ofInt_sum {n : Nat} (f : Fin n → Int) : BitVec.ofInt 32 (∑ k, f k) = ∑ k, BitVec.ofInt 32 (f k) := by
  induction n with
  | zero => rfl
  | succ n ih => rw [Fin.sum_univ_succ, Fin.sum_univ_succ, BitVec.ofInt_add, ih]

/-- The ideal conversion to a 32-bit integer of a real that is an integer inside the range. -/
theorem fptosi_int (z : Int) (h : z.natAbs < 2 ^ 31) : Ideal.fptosi 32 (((z : ℝ)) : EReal) = BitVec.ofInt 32 z := by
  unfold Ideal.fptosi
  rw [Ideal.toIntClamped_coe, Int.floor_intCast, Int.ceil_intCast, ite_self]
  congr 1
  norm_num
  omega

theorem coe_sum {n : Nat} (f : Fin n → ℝ) : (∑ k, ((f k : ℝ) : EReal)) = ((∑ k, f k : ℝ) : EReal) := by
  induction n with
  | zero => rfl
  | succ n ih => rw [Fin.sum_univ_succ, Fin.sum_univ_succ, ih, EReal.coe_add]

theorem natAbs_sum_le {n : Nat} (f : Fin n → Int) (B : Nat) (h : ∀ k, (f k).natAbs ≤ B) : (∑ k, f k).natAbs ≤ n * B := by
  induction n with
  | zero => simp
  | succ n ih =>
      rw [Fin.sum_univ_succ]
      have := ih (fun k => f k.succ) fun k => h k.succ
      have := h 0
      have := Int.natAbs_add_le (f 0) (∑ k : Fin n, f k.succ)
      rw [Nat.succ_mul]; omega

/-- The ideal conversion of a sum of 1024 integers of magnitude at most 2^14 is the sum of their words. -/
theorem fptosi_sum (f : Fin 1024 → Int) (h : ∀ k, (f k).natAbs ≤ 16384) :
    Ideal.fptosi 32 (∑ k, (((f k : Int) : ℝ) : EReal)) = ∑ k, BitVec.ofInt 32 (f k) := by
  rw [coe_sum, ← Int.cast_sum, fptosi_int _ (lt_of_le_of_lt (natAbs_sum_le f _ h) (by norm_num)), ofInt_sum]

/-- The contraction of 1024 pairs of bytes, converted, is the sum of their products as words. -/
theorem dot_word (x w : Fin 1024 → BitVec 8) :
    FloatOps.fptosi (F := Ideal) (φ := .f32) 32
        (∑ k, FloatOps.sitofp (F := Ideal) .bf16 (x k) * FloatOps.sitofp (F := Ideal) .bf16 (w k))
      = ∑ k, prod (x k) (w k) := by
  have e : (∑ k, FloatOps.sitofp (F := Ideal) .bf16 (x k) * FloatOps.sitofp (F := Ideal) .bf16 (w k))
      = ∑ k, ((((x k).toInt * (w k).toInt : Int) : ℝ) : EReal) :=
    Finset.sum_congr rfl fun k _ => by
      rw [Int.cast_mul, EReal.coe_mul]; rfl
  rw [e]
  refine (fptosi_sum _ fun k => ?_).trans (Finset.sum_congr rfl fun k _ => (prod_eq _ _).symm)
  rw [Int.natAbs_mul]
  exact Nat.mul_le_mul (natAbs_toInt_i8_le _) (natAbs_toInt_i8_le _)

/-- The sum of 1024 bytes, converted, is the sum of their sign extensions. -/
theorem sum_word (w : Fin 1024 → BitVec 8) :
    FloatOps.fptosi (F := Ideal) (φ := .f32) 32 (∑ k, FloatOps.sitofp (F := Ideal) .bf16 (w k))
      = ∑ k, (w k).signExtend 32 :=
  (fptosi_sum (fun k => (w k).toInt) fun k => (natAbs_toInt_i8_le _).trans (by norm_num)).trans
    (Finset.sum_congr rfl fun _ _ => rfl)

/-- A sum over 4096 positions is the sum over the four chunks, in the kernel's order. -/
theorem sum_chunks (f : Fin 4096 → BitVec 32) :
    (∑ k, f k) = (∑ k, f (at4 0 k)) + (∑ k, f (at4 1 k)) + (∑ k, f (at4 2 k)) + (∑ k, f (at4 3 k)) := by
  rw [Fin.sum_univ_tiles 4 1024 rfl f, Fin.sum_univ_four]
  refine congrArg₂ _ (congrArg₂ _ (congrArg₂ _ ?_ ?_) ?_) ?_ <;>
    exact Finset.sum_congr rfl fun k _ => congrArg f (Fin.ext (by simp [at4]))

end Cert.Proof.Dot

end
-- ==== Proof.Payload.lean ====
/-
  What one block of the kernel's result holds, over the vectors the body loads: four chunks of the activation block and of the
  weight block, the bias, multiplier and shift rows and the two zero points.
-/
module

public import proofs.«01_k».proof.Proof.Gen.KernelIdeal.Skeleton
public import proofs.«01_k».proof.Proof.Requant
public import proofs.«01_k».proof.Proof.Dot
public import Idealize.ShloMosaic.Lib.Pointwise

@[expose] public section

set_option maxRecDepth 16384

noncomputable section

namespace Cert.Proof.Payload

open Idealize.ShloMosaic Idealize.ShloMosaic.TcCoe Idealize.SL.Sem
open Cert.KernelIdeal Cert.KernelIdeal.Gen
open Cert.Proof.Dot Cert.Proof.Requant

/-- The sum over one chunk of the products of row `r` of the activations and row `c` of the weights. -/
def chunk (x w : Vec Ideal S1024x1024 .i8) (r c : Fin 1024) : BitVec 32 := ∑ k : Fin 1024, prod (x (ix2 r k)) (w (ix2 c k))

/-- The sum over one chunk of row `c` of the weights. -/
def wchunk (w : Vec Ideal S1024x1024 .i8) (c : Fin 1024) : BitVec 32 := ∑ k : Fin 1024, (w (ix2 c k)).signExtend 32

/-- The accumulator after the four chunks. -/
theorem acc_at (w0 x0 w1 x1 w2 x2 w3 x3 : Vec Ideal S1024x1024 .i8) (r c : Fin 1024) :
    k0_pay11 (F := Ideal) w3 x3 (k0_pay9 (F := Ideal) (k0_pay8 w2) x2 (k0_pay7 (F := Ideal) w1 x1 (k0_pay4 (F := Ideal) w0 x0)))
        (ix2 r c)
      = chunk x0 w0 r c + chunk x1 w1 r c + chunk x2 w2 r c + chunk x3 w3 r c := by
  pointwise [k0_pay11, k0_pay10, k0_pay9, k0_pay8, k0_pay7, k0_pay5, k0_pay4, k0_pay3]
  rw [dot_word, dot_word, dot_word, dot_word]
  rfl

/-- The offset of a column: its bias less the zero point times the sum of its weights. -/
theorem offset_at (w0 w1 w2 w3 : Vec Ideal S1024x1024 .i8) (b : Vec Ideal S1x1024 .i32) (xz : Elt Ideal .i32)
    (r c : Fin 1024) :
    k0_pay12 (F := Ideal) (k0_pay2 (F := Ideal)) (k0_pay6 (F := Ideal) w0 w1) (k0_pay8 w2) w3 b xz (ix2 r c)
      = IntOp.subi (b (ix2 0 c)) (IntOp.muli xz (wchunk w0 c + wchunk w1 c + wchunk w2 c + wchunk w3 c)) := by
  pointwise [k0_pay12, k0_pay10, k0_pay8, k0_pay6, k0_pay5, k0_pay3, k0_pay2]
  have z (a : BitVec 32) : IntOp.addi 0#32 a = a := BitVec.zero_add a
  rw [sum_word, sum_word, sum_word, sum_word, z]
  rfl

/-- The high word of a shifted accumulator. -/
theorem high_at (acc off : IVec S1024x1024 32) (mul : Vec Ideal S1x1024 .i32) (r c : Fin 1024) :
    k0_pay14 (F := Ideal) acc off mul (ix2 r c)
      = kHigh (IntOp.addi (acc (ix2 r c)) (off (ix2 r c))) (mul (ix2 0 c)) := by
  pointwise [k0_pay14]
  rfl

/-- The stored byte of a high word. -/
theorem out_at (s : Vec Ideal S1x1024 .i32) (yz : Elt Ideal .i32) (h : IVec S1024x1024 32) (r c : Fin 1024) :
    k0_pay1 (F := Ideal) (k0_pay13 (F := Ideal) s) yz h (ix2 r c) = kOut (h (ix2 r c)) (s (ix2 0 c)) yz := by
  pointwise [k0_pay1, k0_pay13]
  rfl

/-- The stored byte of one result element: row `x` of the activations against row `w` of the weights, the zero points `xz` and
    `yz`, and the column's bias `b`, multiplier `m` and shift `s`. -/
def elem (x w : Fin 4096 → BitVec 8) (xz yz b m s : BitVec 32) : BitVec 8 :=
  kOut (kHigh (IntOp.addi (∑ k, prod (x k) (w k)) (IntOp.subi b (IntOp.muli xz (∑ k, (w k).signExtend 32)))) m) s yz

/-- The block the body stores, at an index, is `elem` of the block's rows: `x` and `w` are the rows of 4096 whose chunks the
    loaded vectors hold. -/
theorem block_at (w0 x0 w1 x1 w2 x2 w3 x3 : Vec Ideal S1024x1024 .i8) (b mul s : Vec Ideal S1x1024 .i32)
    (xz yz : Elt Ideal .i32) (r c : Fin 1024) (x w : Fin 4096 → BitVec 8)
    (hx0 : ∀ k, x0 (ix2 r k) = x (at4 0 k)) (hx1 : ∀ k, x1 (ix2 r k) = x (at4 1 k))
    (hx2 : ∀ k, x2 (ix2 r k) = x (at4 2 k)) (hx3 : ∀ k, x3 (ix2 r k) = x (at4 3 k))
    (hw0 : ∀ k, w0 (ix2 c k) = w (at4 0 k)) (hw1 : ∀ k, w1 (ix2 c k) = w (at4 1 k))
    (hw2 : ∀ k, w2 (ix2 c k) = w (at4 2 k)) (hw3 : ∀ k, w3 (ix2 c k) = w (at4 3 k)) :
    k0_pay1 (F := Ideal) (k0_pay13 (F := Ideal) s) yz
        (k0_pay14 (F := Ideal)
          (k0_pay11 (F := Ideal) w3 x3
            (k0_pay9 (F := Ideal) (k0_pay8 w2) x2 (k0_pay7 (F := Ideal) w1 x1 (k0_pay4 (F := Ideal) w0 x0))))
          (k0_pay12 (F := Ideal) (k0_pay2 (F := Ideal)) (k0_pay6 (F := Ideal) w0 w1) (k0_pay8 w2) w3 b xz) mul) (ix2 r c)
      = elem x w xz yz (b (ix2 0 c)) (mul (ix2 0 c)) (s (ix2 0 c)) := by
  rw [out_at, high_at, acc_at, offset_at]
  unfold elem chunk wchunk
  rw [sum_chunks fun k => prod (x k) (w k), sum_chunks fun k => (w k).signExtend 32]
  simp only [hx0, hx1, hx2, hx3, hw0, hw1, hw2, hw3]

end Cert.Proof.Payload

end
-- ==== Proof.Array.lean ====
/-
  What the kernel's result array holds after the run: at row `i`, column `j` the byte `Payload.elem` of row `i` of the
  activations and row `j` of the weights, first over the arrays the kernel is handed, then over the arguments themselves.
-/
module

public import proofs.«01_k».proof.Proof.Gen.KernelIdeal.Value
public import proofs.«01_k».proof.Proof.Payload
public import Idealize.ShloMosaic.Lib.Pipeline.ValueKit
public import Idealize.ShloMosaic.Lib.Claim

@[expose] public section

set_option maxRecDepth 16384

noncomputable section

namespace Cert.Proof.Array

open Idealize.ShloMosaic Idealize.ShloMosaic.TcCoe Idealize.SL.Sem
open Idealize.ShloMosaic.Pipeline (Dat)
open Cert.KernelIdeal Cert.KernelIdeal.Gen
open Cert.Proof.Dot Cert.Proof.Payload

/-- The result over the arrays the kernel is handed: zero points, activations as 16384 rows, weights, and the bias, multiplier and
    shift rows. -/
def handed (Z : Vec Ideal S2 .i32) (X : Vec Ideal S16384x4096 .i8) (W : Vec Ideal S14336x4096 .i8)
    (B M S : Vec Ideal S1x14336 .i32) (i : Fin 16384) (j : Fin 14336) : BitVec 8 :=
  elem (fun k => X (ix2 i k)) (fun k => W (ix2 j k)) (Z (ix1 0)) (Z (ix1 1)) (B (ix2 0 j)) (M (ix2 0 j)) (S (ix2 0 j))

variable (m : (ℓ : Loc nD τ sig) → Buf (Elt Ideal) ℓ)

/-- The block each window holds at a grid point: point `t` works on row block `t % 16` and column block `t / 16`. -/
theorem idx : ∀ t : Fin cfg0.N, win0_0.index t = ![0] ∧ win0_1.index t = ![t.val % 16, 0] ∧ win0_2.index t = ![t.val / 16, 0]
    ∧ win0_3.index t = ![0, t.val / 16] ∧ win0_4.index t = ![0, t.val / 16] ∧ win0_5.index t = ![0, t.val / 16]
    ∧ win0_6.index t = ![t.val % 16, t.val / 16] ∧ t.val / 16 < 14 :=
  (by decide +kernel : ∀ t : Fin grid0.N, _)

theorem elem_congr {x x' w w' : Fin 4096 → BitVec 8} {xz xz' yz yz' b b' l l' s s' : BitVec 32} (hx : ∀ k, x k = x' k)
    (hw : ∀ k, w k = w' k) (h1 : xz = xz') (h2 : yz = yz') (h3 : b = b') (h4 : l = l') (h5 : s = s') :
    elem x w xz yz b l s = elem x' w' xz' yz' b' l' s' := by
  rw [funext hx, funext hw, h1, h2, h3, h4, h5]

/-- What the body stores at point `t`, at row `r` and column `q` of its block: `elem` of the rows of the point's input blocks. -/
theorem stored (c : Dev nD) (t : Fin cfg0.N) (r q : Fin 1024) :
    outsAt0 m c t (ix2 r q)
      = elem (fun k => iblk m c 1 t (ix2 r k)) (fun k => iblk m c 2 t (ix2 q k)) (iblk m c 0 t (ix1 0)) (iblk m c 0 t (ix1 1))
          (iblk m c 3 t (ix2 0 q)) (iblk m c 4 t (ix2 0 q)) (iblk m c 5 t (ix2 0 q)) := by
  unfold outsAt0
  frame_out
  refine (block_at _ _ _ _ _ _ _ _ _ _ _ _ _ r q (fun k => iblk m c 1 t (ix2 r k)) (fun k => iblk m c 2 t (ix2 q k))
    ?_ ?_ ?_ ?_ ?_ ?_ ?_ ?_).trans ?_
  case refine_9 =>
    refine elem_congr (fun k => rfl) (fun k => rfl) ?_ ?_ rfl rfl rfl <;> pointwise
  all_goals
    intro k
    pointwise
    first
      | rfl
      | exact congrArg _ ((ix2_inj ..).2 ⟨rfl, Fin.ext (by simp [at4])⟩)

/-- The zero points are handed whole to every point. -/
theorem zps_at (c : Dev nD) (t : Fin cfg0.N) (a : Fin 2) : iblk m c 0 t (ix1 a) = V m c main_v2 (ix1 a) := by
  blk_ext [iblk, idx t]

/-- Row `r` of the activation block is row `1024 * (t % 16) + r` of the activations. -/
theorem x_at (c : Dev nD) (t : Fin cfg0.N) (r : Fin 1024) (k : Fin 4096) :
    iblk m c 1 t (ix2 r k) = V m c main_v3 (ix2 ⟨t.val % 16 * 1024 + r, by omega⟩ k) := by
  blk_ext [iblk, idx t]

/-- Row `q` of the weight block is row `1024 * (t / 16) + q` of the weights. -/
theorem w_at (c : Dev nD) (t : Fin cfg0.N) (q : Fin 1024) (k : Fin 4096) :
    iblk m c 2 t (ix2 q k)
      = V m c main_arg2 (ix2 ⟨t.val / 16 * 1024 + q, by have := (idx t).2.2.2.2.2.2.2; omega⟩ k) := by
  blk_ext [iblk, idx t]

/-- Column `q` of the bias, multiplier and shift blocks is column `1024 * (t / 16) + q` of their rows. -/
theorem b_at (c : Dev nD) (t : Fin cfg0.N) (q : Fin 1024) :
    iblk m c 3 t (ix2 0 q)
      = V m c main_v4 (ix2 0 ⟨t.val / 16 * 1024 + q, by have := (idx t).2.2.2.2.2.2.2; omega⟩) := by
  blk_ext [iblk, idx t]

theorem m_at (c : Dev nD) (t : Fin cfg0.N) (q : Fin 1024) :
    iblk m c 4 t (ix2 0 q)
      = V m c main_v5 (ix2 0 ⟨t.val / 16 * 1024 + q, by have := (idx t).2.2.2.2.2.2.2; omega⟩) := by
  blk_ext [iblk, idx t]

theorem s_at (c : Dev nD) (t : Fin cfg0.N) (q : Fin 1024) :
    iblk m c 5 t (ix2 0 q)
      = V m c main_v6 (ix2 0 ⟨t.val / 16 * 1024 + q, by have := (idx t).2.2.2.2.2.2.2; omega⟩) := by
  blk_ext [iblk, idx t]

/-- Where row `r`, column `q` of the block of point `t` sits in the result. -/
theorem place (t : Fin cfg0.N) (r q : Fin 1024) :
    ((cfg0.win 6).blk t).view.emb (ix2 r q)
      = (ix2 ⟨t.val % 16 * 1024 + r, by omega⟩
          ⟨t.val / 16 * 1024 + q, by have := (idx t).2.2.2.2.2.2.2; omega⟩ : S16384x14336.Idx) := by
  blk_ext [idx t]

/-- The result array after the run, over the arrays the kernel is handed. -/
theorem final (c : Dev nD) : (dats m 0 c).arrAt 6 cfg0.N
    = fun p : S16384x14336.Idx => handed (V m c main_v2) (V m c main_v3) (V m c main_arg2) (V m c main_v4) (V m c main_v5)
        (V m c main_v6) (p 0) (p 1) := by
  refine (dats m 0 c).arrAt_eq_of_covers 6 _ (by decide +kernel) fun t _ y => ?_
  obtain ⟨r, q, rfl⟩ : ∃ (r q : Fin 1024), y = (ix2 r q : S1024x1024.Idx) := ⟨y 0, y 1, eq_ix2 y⟩
  rw [place t r q]
  blk_simp
  rw [after0_6]
  refine (stored m c t r q).trans ?_
  unfold handed
  exact elem_congr (fun k => x_at m c t r k) (fun k => w_at m c t q k) (zps_at m c t 0) (zps_at m c t 1) (b_at m c t q)
    (m_at m c t q) (s_at m c t q)

end Cert.Proof.Array

end
-- ==== Proof.Args.lean ====
/-
  The kernel's result array over the arguments: the host stacks the two zero points, joins the two leading axes of the
  activations, and makes one row of each of the bias, the multipliers and the shifts.
-/
module

public import proofs.«01_k».proof.Proof.Array

@[expose] public section

set_option maxRecDepth 16384

noncomputable section

namespace Cert.Proof.Args

open Idealize.ShloMosaic Idealize.ShloMosaic.TcCoe Idealize.SL.Sem
open Cert.KernelIdeal Cert.KernelIdeal.Gen
open Cert.Proof.Payload Cert.Proof.Array

/-- The kernel's result at row `i`, column `j` over the layer's arguments: row `i` is position `i % 2048` of batch `i / 2048`. -/
def result (X : Vec Ideal S8x2048x4096 .i8) (xz : Vec Ideal S_ .i32) (W : Vec Ideal S14336x4096 .i8)
    (B M S : Vec Ideal S14336 .i32) (yz : Vec Ideal S_ .i32) (i : Fin 16384) (j : Fin 14336) : BitVec 8 :=
  elem (fun k => X (ix3 ⟨i / 2048, by omega⟩ ⟨i % 2048, by omega⟩ k)) (fun k => W (ix2 j k)) (xz ix0) (yz ix0) (B (ix1 j))
    (M (ix1 j)) (S (ix1 j))

variable (m : (ℓ : Loc nD τ sig) → Buf (Elt Ideal) ℓ)

theorem v2_0 (c : Dev nD) : V m c main_v2 (ix1 0) = m ((c : Thread nD τ).loc main_arg1) ix0 := by
  entry_read
  pointwise

theorem v2_1 (c : Dev nD) : V m c main_v2 (ix1 1) = m ((c : Thread nD τ).loc main_arg6) ix0 := by
  entry_read
  pointwise

theorem v3_at (c : Dev nD) (i : Fin 16384) (k : Fin 4096) : V m c main_v3 (ix2 i k)
    = m ((c : Thread nD τ).loc main_arg0) (ix3 ⟨i / 2048, by omega⟩ ⟨i % 2048, by omega⟩ k) := by
  entry_read
  pointwise

theorem v4_at (c : Dev nD) (j : Fin 14336) : V m c main_v4 (ix2 0 j) = m ((c : Thread nD τ).loc main_arg3) (ix1 j) := by
  entry_read
  pointwise

theorem v5_at (c : Dev nD) (j : Fin 14336) : V m c main_v5 (ix2 0 j) = m ((c : Thread nD τ).loc main_arg4) (ix1 j) := by
  entry_read
  pointwise

theorem v6_at (c : Dev nD) (j : Fin 14336) : V m c main_v6 (ix2 0 j) = m ((c : Thread nD τ).loc main_arg5) (ix1 j) := by
  entry_read
  pointwise

/-- The result array after the run, over the arguments as launched. -/
theorem final_args (c : Dev nD) : (dats m 0 c).arrAt 6 cfg0.N
    = fun p : S16384x14336.Idx => result (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (p 0) (p 1) := by
  rw [final]
  funext p
  exact elem_congr (fun k => v3_at m c (p 0) k) (fun k => congrFun (V_main_arg2 m c) _) (v2_0 m c) (v2_1 m c) (v4_at m c (p 1))
    (v5_at m c (p 1)) (v6_at m c (p 1))

end Cert.Proof.Args

end
-- ==== Proof.RefValue.lean ====
/-
  What the reference computes, at a row and a column of its result: the requantiser's reference formula of the accumulator of
  that row and column.
-/
module

public import proofs.«01_k».proof.Proof.Gen.ReferenceIdeal.Run
public import proofs.«01_k».proof.Proof.Requant
public import proofs.«01_k».proof.Proof.Dot
public import Idealize.ShloMosaic.Lib.Pointwise

@[expose] public section

set_option maxRecDepth 16384

noncomputable section

namespace Cert.Proof.RefValue

open Idealize.ShloMosaic Idealize.ShloMosaic.TcCoe Idealize.SL.Sem
open Cert.ReferenceIdeal Cert.ReferenceIdeal.Gen Cert.ReferenceIdeal.Value
open Cert.Proof.Dot Cert.Proof.Requant

/-- A fold by word addition from zero is the sum. -/
theorem fold_addi {n : Nat} (f : Fin n → BitVec 32) : Finset.fold IntOp.addi 0#32 f Finset.univ = ∑ k, f k := rfl

/-- The sum of the weights of a column. -/
theorem wsum_at (W : Vec Ideal S14336x4096 .i32) (j : Fin 14336) :
    Host.reduce IntOp.addi W (constantI S_ 32 0#32) reducesTo_S14336x4096_S14336_d1 h_S_ (ix1 j) = ∑ k : Fin 4096, W (ix2 j k) := by
  rw [Host.reduce_eq_fold, Shape.ReducesTo.fold_fiber_r2_a1]
  exact fold_addi fun k => W (ix2 j k)

variable (V0 : Valuation τ sig (Elt Ideal))

/-- The accumulator with its zero-point correction and its bias. -/
theorem acc_at (b : Fin 8) (s : Fin 2048) (j : Fin 14336) : res_main_v16 V0 (ix3 b s j)
    = IntOp.addi (IntOp.subi
        (∑ k : Fin 4096, prod (V0 (Proc.devRef .tc main_arg0) (ix3 b s k)) (V0 (Proc.devRef .tc main_arg2) (ix2 j k)))
        (IntOp.muli (V0 (Proc.devRef .tc main_arg1) ix0)
          (∑ k : Fin 4096, (V0 (Proc.devRef .tc main_arg2) (ix2 j k) : BitVec 8).signExtend 32)))
        (V0 (Proc.devRef .tc main_arg3) (ix1 j)) := by
  unfold res_main_v16
  refine congrArg₂ IntOp.addi (congrArg₂ IntOp.subi ?_ ?_) ?_
  · pointwise [res_main_v1]
    exact fold_addi _
  · generalize hR : Host.reduce IntOp.addi (res_main_v1 V0) (constantI S_ 32 0#32) reducesTo_S14336x4096_S14336_d1 h_S_ = R
    pointwise
    refine congrArg₂ IntOp.muli rfl ?_
    rw [← hR]
    refine (wsum_at (res_main_v1 V0) j).trans ?_
    unfold res_main_v1
    rfl
  · pointwise

section
variable (b : Fin 8) (s : Fin 2048) (j : Fin 14336)

/-- The sign test of the accumulator. -/
theorem neg_at : res_main_v18 V0 (ix3 b s j) = IntOp.cmpi .slt (res_main_v16 V0 (ix3 b s j)) 0#32 := by
  unfold res_main_v18
  generalize res_main_v16 V0 = A
  pointwise

/-- The upper half of the accumulator's magnitude. -/
theorem mh_at : res_main_v23 V0 (ix3 b s j) = IntOp.shrui .host (IntOp.absi (res_main_v16 V0 (ix3 b s j))) 16#32 := by
  unfold res_main_v23 res_main_v20
  generalize res_main_v16 V0 = A
  rw [id_eq]
  pointwise

/-- The lower half of the accumulator's magnitude. -/
theorem ml_at : res_main_v25 V0 (ix3 b s j) = IntOp.andi (IntOp.absi (res_main_v16 V0 (ix3 b s j))) 65535#32 := by
  unfold res_main_v25 res_main_v20
  generalize res_main_v16 V0 = A
  rw [id_eq]
  pointwise

/-- The upper half of the multiplier. -/
theorem bh_at : res_main_v27 V0 (ix1 j) = IntOp.shrui .host (V0 (Proc.devRef .tc main_arg4) (ix1 j)) 16#32 := by
  unfold res_main_v27 res_main_v21
  rw [id_eq]
  pointwise

/-- The lower half of the multiplier. -/
theorem bl_at : res_main_v29 V0 (ix1 j) = IntOp.andi (V0 (Proc.devRef .tc main_arg4) (ix1 j)) 65535#32 := by
  unfold res_main_v29 res_main_v21
  rw [id_eq]
  pointwise

/-- The lowest partial product. -/
theorem lo_at : res_main_v32 V0 (ix3 b s j) = rLo (res_main_v16 V0 (ix3 b s j)) (V0 (Proc.devRef .tc main_arg4) (ix1 j)) := by
  unfold res_main_v32
  generalize h0 : res_main_v25 V0 = X0
  generalize h1 : res_main_v29 V0 = X1
  pointwise
  subst h0 h1
  rw [ml_at, bl_at]
  generalize res_main_v16 V0 (ix3 b s j) = a
  rfl

/-- The middle partial product. -/
theorem mid_at : res_main_v39 V0 (ix3 b s j) = rMid (res_main_v16 V0 (ix3 b s j)) (V0 (Proc.devRef .tc main_arg4) (ix1 j)) := by
  unfold res_main_v39
  generalize h0 : res_main_v23 V0 = X0
  generalize h1 : res_main_v25 V0 = X1
  generalize h2 : res_main_v27 V0 = X2
  generalize h3 : res_main_v29 V0 = X3
  pointwise
  subst h0 h1 h2 h3
  rw [mh_at, ml_at, bh_at, bl_at]
  generalize res_main_v16 V0 (ix3 b s j) = a
  rfl

/-- The low word of the product. -/
theorem low_at : res_main_v45 V0 (ix3 b s j) = rLow (res_main_v16 V0 (ix3 b s j)) (V0 (Proc.devRef .tc main_arg4) (ix1 j)) := by
  unfold res_main_v45
  generalize h0 : res_main_v32 V0 = X0
  generalize h1 : res_main_v39 V0 = X1
  pointwise
  subst h0 h1
  rw [lo_at, mid_at]
  generalize res_main_v16 V0 (ix3 b s j) = a
  rfl

/-- The low word with the rounding term. -/
theorem low2_at : res_main_v53 V0 (ix3 b s j) = rLow2 (res_main_v16 V0 (ix3 b s j)) (V0 (Proc.devRef .tc main_arg4) (ix1 j)) := by
  unfold res_main_v53
  generalize h0 : res_main_v45 V0 = X0
  generalize h1 : res_main_v18 V0 = X1
  pointwise
  subst h0 h1
  rw [low_at, neg_at]
  generalize res_main_v16 V0 (ix3 b s j) = a
  rfl

/-- The rounded high word of the magnitudes. -/
theorem mag_at : res_main_v62 V0 (ix3 b s j) = rMag (res_main_v16 V0 (ix3 b s j)) (V0 (Proc.devRef .tc main_arg4) (ix1 j)) := by
  unfold res_main_v62
  rw [id_eq]
  generalize h0 : res_main_v23 V0 = X0
  generalize h1 : res_main_v27 V0 = X1
  generalize h2 : res_main_v39 V0 = X2
  generalize h3 : res_main_v45 V0 = X3
  generalize h4 : res_main_v32 V0 = X4
  generalize h5 : res_main_v53 V0 = X5
  pointwise
  subst h0 h1 h2 h3 h4 h5
  rw [mh_at, bh_at, mid_at, low_at, lo_at, low2_at]
  generalize res_main_v16 V0 (ix3 b s j) = a
  rfl

/-- The high word. -/
theorem high_at : res_main_v64 V0 (ix3 b s j) = rHigh (res_main_v16 V0 (ix3 b s j)) (V0 (Proc.devRef .tc main_arg4) (ix1 j)) := by
  unfold res_main_v64
  generalize h0 : res_main_v18 V0 = X0
  generalize h1 : res_main_v62 V0 = X1
  pointwise
  subst h0 h1
  rw [mag_at, neg_at]
  generalize res_main_v16 V0 (ix3 b s j) = a
  rfl

/-- The mask of the bits shifted out. -/
theorem mask_at : res_main_v68 V0 (ix1 j)
    = IntOp.subi (IntOp.shli .host 1#32 (V0 (Proc.devRef .tc main_arg5) (ix1 j))) 1#32 := by
  unfold res_main_v68
  pointwise

end

/-- The reference's result array over the contents it is launched with. -/
def out : IVec S16384x14336 8 :=
  shapeCast S16384x14336 (trunci 8 (minsi (broadcastInDim S8x2048x14336 ![] bcast_S_S8x2048x14336 (id (constantI S_ 32
    127#32))) (maxsi (broadcastInDim S8x2048x14336 ![] bcast_S_S8x2048x14336 (id (constantI S_ 32 4294967168#32))) (addi
    (addi (Host.shrsi (res_main_v64 V0) (broadcastInDim S8x2048x14336 ![0, 1, 2] bcast_S1x1x14336_S8x2048x14336_0_1_2
    (broadcastInDim S1x1x14336 ![2] bcast_S14336_S1x1x14336_2 (V0 (Proc.devRef .tc main_arg5))))) (extui 32 (cmpi .sgt (andi
    (res_main_v64 V0) (broadcastInDim S8x2048x14336 ![0, 1, 2] bcast_S1x1x14336_S8x2048x14336_0_1_2 (broadcastInDim
    S1x1x14336 ![2] bcast_S14336_S1x1x14336_2 (res_main_v68 V0)))) (addi (broadcastInDim S8x2048x14336 ![0, 1, 2]
    bcast_S1x1x14336_S8x2048x14336_0_1_2 (broadcastInDim S1x1x14336 ![2] bcast_S14336_S1x1x14336_2 (Host.shrsi (res_main_v68
    V0) (broadcastInDim S14336 ![] bcast_S_S14336 (constantI S_ 32 1#32))))) (extui 32 (cmpi .slt (res_main_v64 V0)
    (broadcastInDim S8x2048x14336 ![] bcast_S_S8x2048x14336 (constantI S_ 32 0#32))) natLt_1_32))) natLt_1_32))
    (broadcastInDim S8x2048x14336 ![] bcast_S_S8x2048x14336 (V0 (Proc.devRef .tc main_arg6)))))) natLt_8_32)
    shapeCasts_S8x2048x14336_S16384x14336

/-- The result at row `i`, column `j`: row `i` is position `i % 2048` of batch `i / 2048`. -/
theorem out_at (i : Fin 16384) (j : Fin 14336) : out V0 (ix2 i j)
    = rOut (rHigh (res_main_v16 V0 (ix3 ⟨i / 2048, by omega⟩ ⟨i % 2048, by omega⟩ j)) (V0 (Proc.devRef .tc main_arg4) (ix1 j)))
        (V0 (Proc.devRef .tc main_arg5) (ix1 j)) (V0 (Proc.devRef .tc main_arg6) ix0) := by
  unfold out
  generalize h0 : res_main_v64 V0 = H
  generalize h1 : res_main_v68 V0 = K
  simp only [id_eq]
  pointwise
  subst h0 h1
  rw [high_at, mask_at]
  generalize res_main_v16 V0 (ix3 _ _ j) = a
  rfl

end Cert.Proof.RefValue

end
-- ==== Proof.Equal.lean ====
/-
  The equation: at every row and column the kernel's byte is the reference's, whenever the column's multiplier is nonnegative.
-/
module

public import proofs.«01_k».proof.Proof.Args
public import proofs.«01_k».proof.Proof.RefValue
public import proofs.«01_k».proof.Pre_multipliers_nonnegative
public import Mathlib.Tactic.Abel

@[expose] public section

set_option maxRecDepth 16384

noncomputable section

namespace Cert.Proof.Equal

open Idealize.ShloMosaic Idealize.ShloMosaic.TcCoe Idealize.SL.Sem
open Cert.Proof.Dot Cert.Proof.Requant Cert.Proof.Args Cert.Proof.Payload

/-- Adding the corrected bias to the sum is subtracting the correction from it and then adding the bias. -/
theorem acc_eq (t z b : BitVec 32) : IntOp.addi t (IntOp.subi b z) = IntOp.addi (IntOp.subi t z) b := by
  change t + (b - z) = t - z + b
  abel

/-- The precondition at one column: its multiplier is nonnegative. -/
theorem multiplier_nonneg [Cert.Pre_multipliers_nonnegative.Facts]
    (x0 : IVec Cert.Pre_multipliers_nonnegative.S8x2048x4096 8) (x1 : IVec Cert.Pre_multipliers_nonnegative.S_ 32)
    (x2 : IVec Cert.Pre_multipliers_nonnegative.S14336x4096 8) (x3 x4 x5 : IVec Cert.Pre_multipliers_nonnegative.S14336 32)
    (x6 : IVec Cert.Pre_multipliers_nonnegative.S_ 32)
    (h : Cert.Pre_multipliers_nonnegative.fn (F := Ideal) x0 x1 x2 x3 x4 x5 x6 = fun _ => 1#1) (j : Fin 14336) :
    0 ≤ (x4 (ix1 j)).toInt := by
  have h1 := congrFun h (ix1 j)
  unfold Cert.Pre_multipliers_nonnegative.fn at h1
  have h2 : IntOp.cmpi .sge (x4 (ix1 j)) 0#32 = 1#1 := by
    rw [← h1]
    pointwise
  exact IntOp.cmpi_sge.mp h2

/-- The kernel's result over the arguments is the reference's result array, from launch contents holding those arguments. -/
theorem result_eq (V0 : Valuation Cert.ReferenceIdeal.τ Cert.ReferenceIdeal.sig (Elt Ideal)) (i : Fin 16384) (j : Fin 14336)
    (hm : 0 ≤ (V0 (Proc.devRef .tc Cert.ReferenceIdeal.main_arg4) (ix1 j) : BitVec 32).toInt) :
    result (V0 (Proc.devRef .tc Cert.ReferenceIdeal.main_arg0)) (V0 (Proc.devRef .tc Cert.ReferenceIdeal.main_arg1))
        (V0 (Proc.devRef .tc Cert.ReferenceIdeal.main_arg2)) (V0 (Proc.devRef .tc Cert.ReferenceIdeal.main_arg3))
        (V0 (Proc.devRef .tc Cert.ReferenceIdeal.main_arg4)) (V0 (Proc.devRef .tc Cert.ReferenceIdeal.main_arg5))
        (V0 (Proc.devRef .tc Cert.ReferenceIdeal.main_arg6)) i j
      = RefValue.out V0 (ix2 i j) := by
  rw [RefValue.out_at, RefValue.acc_at]
  unfold result elem
  rw [acc_eq, kHigh_eq_rHigh _ _ hm, kOut_eq_rOut]

end Cert.Proof.Equal

end
-- ==== Proof.lean ====
/-
  The five claims: the kernel, its ideal reading and the reference each run to an end with their arguments unchanged and every
  semaphore back at zero; the ideal reading is the kernel's own text; and the ideal reading and the reference end with equal
  results wherever the multipliers are nonnegative.
-/
module

public import proofs.«01_k».proof.Defs
public import proofs.«01_k».proof.Proof.Equal
public import proofs.«01_k».proof.Proof.Gen.KernelIdeal.Value
public import proofs.«01_k».proof.Proof.Gen.ReferenceIdeal.Run
public import proofs.«01_k».proof.Proof.Gen.Kernel.Frame
public import proofs.«01_k».proof.Proof.Gen.KernelIdeal.Frame
public import Idealize.ShloMosaic.Lib.Quiescent

@[expose] public section

set_option maxRecDepth 16384

noncomputable section

namespace Cert.Proof

open Idealize.ShloMosaic Idealize.ShloMosaic.TcCoe Idealize.SL.Sem

/-- The precondition's own side condition: a scalar broadcasts along the columns. -/
theorem preFacts : Cert.Pre_multipliers_nonnegative.Facts := ⟨by decide⟩

/-- The reference's run with its result named. -/
theorem reference_run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ fun r => ∀ c : Dev Cert.ReferenceIdeal.nD,
        r.2.mem ((c : Thread Cert.ReferenceIdeal.nD Cert.ReferenceIdeal.τ).loc Cert.ReferenceIdeal.main_v90)
            = RefValue.out (StableHlo.launchContents m c)
        ∧ r.2.mem ((c : Thread Cert.ReferenceIdeal.nD Cert.ReferenceIdeal.τ).loc Cert.ReferenceIdeal.main_arg0) = m ((c : Thread Cert.ReferenceIdeal.nD Cert.ReferenceIdeal.τ).loc Cert.ReferenceIdeal.main_arg0)
        ∧ r.2.mem ((c : Thread Cert.ReferenceIdeal.nD Cert.ReferenceIdeal.τ).loc Cert.ReferenceIdeal.main_arg1) = m ((c : Thread Cert.ReferenceIdeal.nD Cert.ReferenceIdeal.τ).loc Cert.ReferenceIdeal.main_arg1)
        ∧ r.2.mem ((c : Thread Cert.ReferenceIdeal.nD Cert.ReferenceIdeal.τ).loc Cert.ReferenceIdeal.main_arg2) = m ((c : Thread Cert.ReferenceIdeal.nD Cert.ReferenceIdeal.τ).loc Cert.ReferenceIdeal.main_arg2)
        ∧ r.2.mem ((c : Thread Cert.ReferenceIdeal.nD Cert.ReferenceIdeal.τ).loc Cert.ReferenceIdeal.main_arg3) = m ((c : Thread Cert.ReferenceIdeal.nD Cert.ReferenceIdeal.τ).loc Cert.ReferenceIdeal.main_arg3)
        ∧ r.2.mem ((c : Thread Cert.ReferenceIdeal.nD Cert.ReferenceIdeal.τ).loc Cert.ReferenceIdeal.main_arg4) = m ((c : Thread Cert.ReferenceIdeal.nD Cert.ReferenceIdeal.τ).loc Cert.ReferenceIdeal.main_arg4)
        ∧ r.2.mem ((c : Thread Cert.ReferenceIdeal.nD Cert.ReferenceIdeal.τ).loc Cert.ReferenceIdeal.main_arg5) = m ((c : Thread Cert.ReferenceIdeal.nD Cert.ReferenceIdeal.τ).loc Cert.ReferenceIdeal.main_arg5)
        ∧ r.2.mem ((c : Thread Cert.ReferenceIdeal.nD Cert.ReferenceIdeal.τ).loc Cert.ReferenceIdeal.main_arg6) = m ((c : Thread Cert.ReferenceIdeal.nD Cert.ReferenceIdeal.τ).loc Cert.ReferenceIdeal.main_arg6) := by
  simpa only [RefValue.out] using Cert.ReferenceIdeal.Value.run (F := Ideal) m g

/-- The reference runs to an end with its arguments unchanged; it declares no semaphore. -/
theorem reference_frame : Cert.quiescent_ReferenceIdeal := fun m g _ =>
  (θ_run Cert.ReferenceIdeal.defs _ _).mono (fun r h => ⟨fun c => (h c).2, sem_eq_zero_of_no_sems (by decide) r.2⟩)
    (reference_run m g)

/-- The kernel's ideal reading and the reference end with equal results. -/
theorem algebraic [Cert.Pre_multipliers_nonnegative.Facts] :
    Cert.algebraic_KernelIdeal_ReferenceIdeal_pre_multipliers_nonnegative := by
  intro m g m' g' hpre hargs
  refine ⟨_, Cert.KernelIdeal.Value.run_blocks (F := Ideal) m g, ?_⟩
  refine (θ_run Cert.ReferenceIdeal.defs _ _).mono (fun _ h c => ⟨(h c).1.trans ?_, (h c).2⟩) (reference_run m' g')
  rw [Args.final_args]
  obtain ⟨h0, h1, h2, h3, h4, h5, h6⟩ := hargs c
  rw [← h0, ← h1, ← h2, ← h3, ← h4, ← h5, ← h6]
  funext p
  rw [eq_ix2 p]
  refine (Equal.result_eq (StableHlo.launchContents m' c) (p 0) (p 1) ?_).symm
  have hm := Equal.multiplier_nonneg _ _ _ _ _ _ _ (hpre c) (p 1)
  rw [← h4] at hm
  exact hm

/-- The certificate's claim. -/
theorem claim : Cert.Claim :=
  letI := preFacts
  ⟨Cert.Kernel.Gen.facts, Cert.KernelIdeal.Gen.facts, Cert.ReferenceIdeal.Gen.facts, preFacts,
    fun m g _ => Cert.Kernel.Gen.frame m g, fun m g _ => Cert.KernelIdeal.Gen.frame m g, fun m g _ => Cert.KernelIdeal.Gen.frame m g,
    reference_frame, fun m g _ => reference_frame m g trivial, trivial, algebraic⟩

end Cert.Proof

end
